-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x5504 : Shape := ⟨3, ![3, 1024, 5504]⟩
abbrev S4096x5504 : Shape := ⟨2, ![4096, 5504]⟩
abbrev S4096 : Shape := ⟨1, ![4096]⟩
abbrev S1x4096 : Shape := ⟨2, ![1, 4096]⟩
abbrev S384x8x4096 : Shape := ⟨3, ![384, 8, 4096]⟩
abbrev S3x1x1024 : Shape := ⟨3, ![3, 1, 1024]⟩
abbrev S1x512x5504 : Shape := ⟨3, ![1, 512, 5504]⟩
abbrev S64x8x4096 : Shape := ⟨3, ![64, 8, 4096]⟩
abbrev S1x1x512 : Shape := ⟨3, ![1, 1, 512]⟩
abbrev S512x5504 : Shape := ⟨2, ![512, 5504]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S512x512 : Shape := ⟨2, ![512, 512]⟩
abbrev S1x512 : Shape := ⟨2, ![1, 512]⟩
abbrev S64x8x512 : Shape := ⟨3, ![64, 8, 512]⟩
abbrev S3x1024x4096 : Shape := ⟨3, ![3, 1024, 4096]⟩
abbrev S3x1024x1 : Shape := ⟨3, ![3, 1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S3x1024x5504, .bf16⟩
  | .hbm, ⟨1, _⟩ => ⟨S4096x5504, .fp8e4m3⟩
  | .hbm, ⟨2, _⟩ => ⟨S4096, .f32⟩
  | .hbm, ⟨3, _⟩ => ⟨S1x4096, .f32⟩
  | .hbm, ⟨4, _⟩ => ⟨S384x8x4096, .bf16⟩
  | .hbm, ⟨5, _⟩ => ⟨S3x1024x5504, .fp8e4m3⟩
  | .hbm, ⟨6, _⟩ => ⟨S3x1x1024, .f32⟩
  | .hbm, ⟨7, _⟩ => ⟨S3x1024x4096, .bf16⟩
  | .hbm, ⟨8, _⟩ => ⟨S3x1024x1, .f32⟩
  | .local _ .vmem, ⟨0, _⟩ => ⟨S1x512x5504, .bf16⟩
  | .local _ .vmem, ⟨1, _⟩ => ⟨S1x512x5504, .bf16⟩
  | .local _ .vmem, ⟨2, _⟩ => ⟨S4096x5504, .fp8e4m3⟩
  | .local _ .vmem, ⟨3, _⟩ => ⟨S1x4096, .f32⟩
  | .local _ .vmem, ⟨4, _⟩ => ⟨S64x8x4096, .bf16⟩
  | .local _ .vmem, ⟨5, _⟩ => ⟨S64x8x4096, .bf16⟩
  | .local _ .vmem, ⟨6, _⟩ => ⟨S1x512x5504, .fp8e4m3⟩
  | .local _ .vmem, ⟨7, _⟩ => ⟨S1x512x5504, .fp8e4m3⟩
  | .local _ .vmem, ⟨8, _⟩ => ⟨S1x1x512, .f32⟩
  | .local _ .vmem, ⟨9, _⟩ => ⟨S1x1x512, .f32⟩
  | _, _ => ⟨S3x1024x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x5504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x5504 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x1024x5504 : Shape := ⟨3, ![3, 1024, 5504]⟩
abbrev S4096x5504 : Shape := ⟨2, ![4096, 5504]⟩
abbrev S4096 : Shape := ⟨1, ![4096]⟩
abbrev S1x1x4096 : Shape := ⟨3, ![1, 1, 4096]⟩
abbrev S3x1024x4096 : Shape := ⟨3, ![3, 1024, 4096]⟩
abbrev S3x1024x1 : Shape := ⟨3, ![3, 1024, 1]⟩
abbrev S3x1024 : Shape := ⟨2, ![3, 1024]⟩
abbrev S1x1x253 : Shape := ⟨3, ![1, 1, 253]⟩
abbrev S3x1024x253 : Shape := ⟨3, ![3, 1024, 253]⟩

abbrev nBuf : Space → Nat
  | .hbm => 7
  | .vmem => 6
  | .smem => 0
  | _ => 0

abbrev bufTy : (tb : Table) → Fin (tcTables nBuf tb) → BufTy
  | .hbm, ⟨0, _⟩ => ⟨S3x1024x5504, .bf16⟩
  | .hbm, ⟨1, _⟩ => ⟨S4096x5504, .fp8e4m3⟩
  | .hbm, ⟨2, _⟩ => ⟨S4096, .f32⟩
  | .hbm, ⟨3, _⟩ => ⟨S1x1x4096, .f32⟩
  | .hbm, ⟨4, _⟩ => ⟨S3x1024x4096, .bf16⟩
  | .hbm, ⟨5, _⟩ => ⟨S3x1024x5504, .fp8e4m3⟩
  | .hbm, ⟨6, _⟩ => ⟨S3x1024x1, .f32⟩
  | .local _ .vmem, ⟨0, _⟩ => ⟨S3x1024x5504, .bf16⟩
  | .local _ .vmem, ⟨1, _⟩ => ⟨S4096x5504, .fp8e4m3⟩
  | .local _ .vmem, ⟨2, _⟩ => ⟨S1x1x4096, .f32⟩
  | .local _ .vmem, ⟨3, _⟩ => ⟨S3x1024x4096, .bf16⟩
  | .local _ .vmem, ⟨4, _⟩ => ⟨S3x1024x5504, .fp8e4m3⟩
  | .local _ .vmem, ⟨5, _⟩ => ⟨S3x1024x1, .f32⟩
  | _, _ => ⟨S3x1024x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x1024x5504 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x5504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x5504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
module

public import Idealize.ShloMosaic.PureOps.Ideal
public import Idealize.ShloMosaic.Lib.IdealHost
public import Idealize.ShloMosaic.Lib.ValueIdxCore

/-! The mathematics of one row: the power of two that a row's largest entry gives, by exponent fields and as the
least power of two above it, and the codes and products that follow. -/

@[expose] public section
noncomputable section
namespace Cert.Scale
open Idealize.ShloMosaic

/-- The f32 whose exponent field is `k` and whose other bits are zero. -/
def pow (k : ℕ) : EReal := Ideal.ofBits .f32 (BitVec.ofNat 32 (k * 2 ^ 23))

/-- The bits of `pow k`: no sign, exponent `k`, no fraction. -/
theorem pow_bits : ∀ k : Fin 256,
    (BitVec.ofNat 32 (k.val * 2 ^ 23)).extractLsb' 31 1 = 0#1 ∧
    ((BitVec.ofNat 32 (k.val * 2 ^ 23)).extractLsb' 23 8).toNat = k.val ∧
    ((BitVec.ofNat 32 (k.val * 2 ^ 23)).extractLsb' 0 23).toNat = 0 := by
  decide +kernel

/-- Exponent field zero is zero. -/
theorem pow_zero : pow 0 = 0 := by
  simp [pow, Ideal.ofBits_zero_f32]

/-- Exponent field 255 is infinity. -/
theorem pow_top : pow 255 = ⊤ := by
  obtain ⟨h1, h2, h3⟩ := pow_bits 255
  simp only [pow, Ideal.ofBits, Ideal.ieee]
  rw [show (8 + 23 : ℕ) = 31 from rfl]
  erw [h1, h2, h3]
  simp

/-- Exponent field `k` from 1 to 254 is two to the power `k - 127`. -/
theorem pow_mid (k : ℕ) (h1 : 1 ≤ k) (h2 : k ≤ 254) : pow k = ((2 ^ ((k : ℤ) - 127) : ℝ) : EReal) := by
  obtain ⟨hs, he, hf⟩ := pow_bits ⟨k, by omega⟩
  simp only [pow, Ideal.ofBits, Ideal.ieee]
  rw [show (8 + 23 : ℕ) = 31 from rfl]
  erw [hs, he, hf]
  rw [if_neg (by change ¬ k = 255; omega), if_neg (by change ¬ k = 0; omega)]
  congr 1
  have h23 : (2 : ℝ) ^ ((k : ℤ) - 127) = (2 : ℝ) ^ (23 : ℤ) * (2 : ℝ) ^ ((k : ℤ) - 127 - 23) := by
    rw [← zpow_add₀ (by norm_num)]; congr 1; ring
  rw [h23]
  norm_num

/-- Exponent field 127 is one. -/
theorem pow_one : pow 127 = 1 := by
  rw [pow_mid 127 (by norm_num) (by norm_num)]; norm_num

/-- The values grow with the exponent field. -/
theorem pow_lt_succ (k : ℕ) (h : k ≤ 254) : pow k < pow (k + 1) := by
  rcases Nat.eq_zero_or_pos k with rfl | h0
  · rw [pow_zero, pow_mid 1 (by norm_num) (by norm_num)]
    exact_mod_cast (by positivity : (0 : ℝ) < 2 ^ (((1 : ℕ) : ℤ) - 127))
  · rcases Nat.lt_or_ge k 254 with h1 | h1
    · rw [pow_mid k h0 h, pow_mid (k + 1) (by omega) (by omega)]
      refine EReal.coe_lt_coe_iff.mpr (zpow_lt_zpow_right₀ (by norm_num) ?_)
      push_cast; omega
    · obtain rfl : k = 254 := by omega
      rw [pow_top, pow_mid 254 h0 h]
      exact EReal.coe_lt_top _

/-- The values are in the order of the exponent fields. -/
theorem pow_mono {j k : ℕ} (hjk : j ≤ k) (hk : k ≤ 255) : pow j ≤ pow k := by
  induction k, hjk using Nat.le_induction with
  | base => exact le_rfl
  | succ k _ ih => exact (ih (by omega)).trans (pow_lt_succ k (by omega)).le

/-- The field whose value lies under `t` next: below infinity and from `pow 1` on. -/
theorem exists_field (t : EReal) (h1 : pow 1 ≤ t) (h2 : t < ⊤) :
    ∃ n, 1 ≤ n ∧ n ≤ 254 ∧ pow n ≤ t ∧ t < pow (n + 1) := by
  by_contra hcon
  push Not at hcon
  have : ∀ n, n ≤ 254 → pow (n + 1) ≤ t := by
    intro n
    induction n with
    | zero => intro _; exact h1
    | succ n ih => intro hn; exact hcon (n + 1) (by omega) hn (ih (by omega))
  have := this 254 le_rfl
  rw [show 254 + 1 = 255 from rfl, pow_top] at this
  exact absurd h2 (not_lt.mpr this)

/-- A sum of ones and zeros, as words, is the number of the ones. -/
theorem fold_count {n : ℕ} (p : Fin n → Prop) [DecidablePred p] (s : Finset (Fin n)) :
    s.fold IntOp.addi 0#32 (fun k => if p k then 1#32 else 0#32) = BitVec.ofNat 32 (s.filter p).card := by
  induction s using Finset.induction_on with
  | empty => rfl
  | insert a s ha ih =>
    rw [Finset.fold_insert ha, ih, Finset.filter_insert]
    split
    · rw [Finset.card_insert_of_notMem (by simp [ha]), IntOp.addi, Nat.add_comm, BitVec.ofNat_add]
    · simp [IntOp.addi]

/-- The lanes' values: lane `k` shifted to the exponent field. -/
theorem shl_lane : ∀ k : Fin 256, IntOp.shli .vector (BitVec.ofNat 32 k.val) 23#32 = BitVec.ofNat 32 (k.val * 2 ^ 23) := by
  decide +kernel

/-- The number of lanes at most `t`, less one: the exponent field of `t`. -/
def field (t : EReal) : BitVec 32 :=
  IntOp.subi ((Finset.univ : Finset (Fin 256)).fold IntOp.addi 0#32 fun k =>
    if Ideal.ofBits .f32 (IntOp.shli .vector (BitVec.ofNat 32 k.val) 23#32) ≤ t then 1#32 else 0#32) 1#32

/-- The exponent from the field: zero of the fields 0 (and below) and 255. -/
def expo (f : BitVec 32) : BitVec 32 :=
  Scalar.select (IntOp.ori (IntOp.cmpi .sle f 0#32) (IntOp.cmpi .eq f 255#32)) 0#32 (IntOp.subi f 126#32)

/-- The bits of two to the power `e`. -/
def word (e : BitVec 32) : BitVec 32 :=
  IntOp.shli .vector (IntOp.maxsi (IntOp.addi 127#32 e) 0#32) 23#32

/-- The field, counted. -/
theorem field_eq (t : EReal) :
    field t = BitVec.ofNat 32 ((Finset.univ : Finset (Fin 256)).filter fun k => pow k.val ≤ t).card - 1#32 := by
  unfold field
  simp only [shl_lane]
  rw [fold_count (fun k : Fin 256 => Ideal.ofBits .f32 (BitVec.ofNat 32 (k.val * 2 ^ 23)) ≤ t)]
  rfl

/-- Between two values the field is the lower one's. -/
theorem field_between (t : EReal) (n : ℕ) (hn : n ≤ 254) (h1 : pow n ≤ t) (h2 : t < pow (n + 1)) :
    field t = BitVec.ofNat 32 (n + 1) - 1#32 := by
  rw [field_eq]
  congr 2
  have : (Finset.univ : Finset (Fin 256)).filter (fun k => pow k.val ≤ t) = Finset.Iic ⟨n, by omega⟩ := by
    ext k
    simp only [Finset.mem_filter, Finset.mem_univ, true_and, Finset.mem_Iic, Fin.le_def]
    constructor
    · intro hk
      by_contra hlt
      exact absurd (h2.trans_le ((pow_mono (by omega) (by omega)).trans hk)) (lt_irrefl _)
    · intro hk
      exact (pow_mono hk (by omega)).trans h1
  rw [this, Fin.card_Iic]

/-- Below `pow 1`, and of infinity, the exponent is zero. -/
theorem expo_out (t : EReal) (h : t < pow 1 ∨ t = ⊤) : expo (field t) = 0#32 := by
  rcases h with h | rfl
  · rcases le_or_gt (pow 0) t with h0 | h0
    · rw [field_between t 0 (by norm_num) h0 h]; decide +kernel
    · have : (Finset.univ : Finset (Fin 256)).filter (fun k => pow k.val ≤ t) = ∅ := by
        refine Finset.filter_eq_empty_iff.mpr fun k _ hk => ?_
        exact absurd (h0.trans_le ((pow_mono (Nat.zero_le _) (by omega)).trans hk)) (lt_irrefl _)
      rw [field_eq, this]; decide +kernel
  · rw [field_eq]
    simp only [le_top, Finset.filter_true, Finset.card_univ, Fintype.card_fin]
    decide +kernel

/-- The scale's bits, from the field. -/
theorem word_scale : ∀ n : Fin 255, 1 ≤ n.val →
    word (expo (BitVec.ofNat 32 (n.val + 1) - 1#32)) = BitVec.ofNat 32 ((n.val + 1) * 2 ^ 23) := by
  decide +kernel

/-- The inverse scale's bits, from the field. -/
theorem word_inv : ∀ n : Fin 255, 1 ≤ n.val →
    word (IntOp.subi 0#32 (expo (BitVec.ofNat 32 (n.val + 1) - 1#32))) = BitVec.ofNat 32 ((253 - n.val) * 2 ^ 23) := by
  decide +kernel

/-- The kernel's scale of a row whose largest entry over 448 is `t`. -/
def kscale (t : EReal) : EReal := Ideal.ofBits .f32 (word (expo (field t)))

/-- The kernel's inverse scale. -/
def kinv (t : EReal) : EReal := Ideal.ofBits .f32 (word (IntOp.subi 0#32 (expo (field t))))

/-- The reference's powers of two: lane `k`. -/
def lane (k : ℕ) : EReal := Ideal.exp2 (((IntOp.subi (BitVec.ofNat 32 k) 125#32).toInt : ℝ) : EReal)

/-- The reference's scale. -/
def rscale (t : EReal) : EReal :=
  if pow 1 ≤ t ∧ t < ⊤ then (Finset.univ : Finset (Fin 253)).fold min ⊤ fun k => if t < lane k.val then lane k.val else ⊤
  else 1

/-- The reference's inverse of a scale. -/
def rinv (s : EReal) : EReal := if pow 1 ≤ Ideal.div 1 s then Ideal.div 1 s else 0

/-- The lanes' words. -/
theorem lane_word : ∀ k : Fin 253, (IntOp.subi (BitVec.ofNat 32 k.val) 125#32).toInt = (k.val : ℤ) - 125 := by
  decide +kernel

/-- Lane `k` holds the value of exponent field `k + 2`. -/
theorem lane_eq (k : Fin 253) : lane k.val = pow (k.val + 2) := by
  rw [lane, lane_word, pow_mid _ (by omega) (by omega)]
  change ((Real.rpow 2 _ : ℝ) : EReal) = _
  congr 1
  rw [show Real.rpow 2 (((k.val : ℤ) - 125 : ℤ) : ℝ) = (2 : ℝ) ^ (((k.val : ℤ) - 125 : ℤ) : ℝ) from rfl, Real.rpow_intCast]
  congr 1
  push_cast; ring

/-- The reference's scale between two values is the upper one. -/
theorem rscale_between (t : EReal) (n : ℕ) (h0 : 1 ≤ n) (hn : n ≤ 254) (h1 : pow n ≤ t) (h2 : t < pow (n + 1)) :
    rscale t = pow (n + 1) := by
  have ht : pow 1 ≤ t ∧ t < ⊤ := ⟨(pow_mono h0 (by omega)).trans h1, h2.trans_le le_top⟩
  rw [rscale, if_pos ht]
  simp only [lane_eq]
  refine le_antisymm ?_ ?_
  · rw [Finset.fold_min_le]
    rcases Nat.lt_or_ge n 254 with h | h
    · right
      refine ⟨⟨n - 1, by omega⟩, Finset.mem_univ _, ?_⟩
      have : n - 1 + 2 = n + 1 := by omega
      simp only [this, if_pos h2, le_refl]
    · left
      obtain rfl : n = 254 := by omega
      rw [pow_top]
  · rw [Finset.le_fold_min]
    refine ⟨le_top, fun k _ => ?_⟩
    split
    · rename_i hk
      refine pow_mono ?_ (by omega)
      by_contra hlt
      exact absurd (hk.trans_le ((pow_mono (by omega) (by omega)).trans h1)) (lt_irrefl _)
    · exact le_top

/-- The kernel's scale is the reference's. -/
theorem kscale_eq (t : EReal) : kscale t = rscale t := by
  by_cases ht : pow 1 ≤ t ∧ t < ⊤
  · obtain ⟨n, h0, hn, h1, h2⟩ := exists_field t ht.1 ht.2
    rw [rscale_between t n h0 hn h1 h2, kscale, field_between t n hn h1 h2, word_scale ⟨n, by omega⟩ h0]
    rfl
  · have h : t < pow 1 ∨ t = ⊤ := by
      by_cases h : t < pow 1
      · exact .inl h
      · exact .inr (not_lt_top_iff.mp fun h' => ht ⟨not_lt.mp h, h'⟩)
    rw [rscale, if_neg ht, kscale, expo_out t h, show word 0#32 = BitVec.ofNat 32 (127 * 2 ^ 23) by decide +kernel]
    exact pow_one

/-- The kernel's inverse scale is the reference's. -/
theorem kinv_eq (t : EReal) : kinv t = rinv (rscale t) := by
  by_cases ht : pow 1 ≤ t ∧ t < ⊤
  · obtain ⟨n, h0, hn, h1, h2⟩ := exists_field t ht.1 ht.2
    rw [rscale_between t n h0 hn h1 h2, kinv, field_between t n hn h1 h2, word_inv ⟨n, by omega⟩ h0]
    change pow (253 - n) = _
    rcases Nat.lt_or_ge n 254 with h | h
    · have hd : Ideal.div 1 (pow (n + 1)) = ((2 ^ (126 - (n : ℤ)) : ℝ) : EReal) := by
        have hp : (2 : ℝ) ^ (((n + 1 : ℕ) : ℤ) - 127) ≠ 0 := by positivity
        rw [pow_mid (n + 1) (by omega) (by omega), Ideal.div, if_neg (by exact_mod_cast hp), one_mul, ← EReal.coe_inv,
          ← zpow_neg]
        congr 2
        push_cast; ring
      rw [rinv, hd]
      rcases Nat.lt_or_ge n 253 with h' | h'
      · have hq : ((2 ^ (126 - (n : ℤ)) : ℝ) : EReal) = pow (253 - n) := by
          rw [pow_mid (253 - n) (by omega) (by omega)]
          congr 2
          push_cast [Nat.cast_sub (show n ≤ 253 by omega)]; ring
        rw [hq, if_pos (pow_mono (by omega) (by omega))]
      · obtain rfl : n = 253 := by omega
        rw [if_neg, pow_zero]
        rw [pow_mid 1 (by norm_num) (by norm_num), not_le]
        refine EReal.coe_lt_coe_iff.mpr (zpow_lt_zpow_right₀ (by norm_num) (by norm_num))
    · obtain rfl : n = 254 := by omega
      have hd : Ideal.div 1 (pow 255) = 0 := by
        rw [pow_top, Ideal.div, if_neg (by simp)]; simp
      rw [rinv, hd, if_neg (by rw [not_le, ← pow_zero]; exact pow_lt_succ 0 (by norm_num)), pow_zero]
  · have h : t < pow 1 ∨ t = ⊤ := by
      by_cases h : t < pow 1
      · exact .inl h
      · exact .inr (not_lt_top_iff.mp fun h' => ht ⟨not_lt.mp h, h'⟩)
    have hd : Ideal.div 1 1 = 1 := by
      rw [Ideal.div, if_neg one_ne_zero, one_mul]
      rw [← EReal.coe_one, ← EReal.coe_inv, inv_one]
    rw [rscale, if_neg ht, rinv, hd, if_pos (by rw [← pow_one]; exact pow_mono (by norm_num) (by norm_num)),
      kinv, expo_out t h, show word (IntOp.subi 0#32 0#32) = BitVec.ofNat 32 (127 * 2 ^ 23) by decide +kernel]
    exact pow_one

/-- A row of zeros has exponent zero anyway. -/
theorem expo_zero (a c : EReal) :
    Scalar.select (Ideal.cmp .oeq a (Ideal.ofBits .f32 0x00000000#32)) 0#32 (expo (field (a * c))) = expo (field (a * c)) := by
  by_cases h : Ideal.cmp .oeq a (Ideal.ofBits .f32 0x00000000#32) = 1#1
  · have h0 : a = 0 := by
      rw [Ideal.ofBits_zero_f32] at h
      by_contra hne
      simp [Ideal.cmp, hne] at h
    rw [h, h0, zero_mul, expo_out 0 (.inl (by rw [← pow_zero]; exact pow_lt_succ 0 (by norm_num)))]
    rfl
  · rw [ValueIdx.eq_zero_of_ne_one h]
    rfl

/-- A row's largest entry in absolute value. -/
def amax (row : Fin 5504 → EReal) : EReal :=
  Finset.univ.fold max ⊥ fun k => max (row k) (-(row k))

/-- That over 448. -/
def tval (row : Fin 5504 → EReal) : EReal := amax row * Ideal.ofBits .f32 0x3B124925#32

/-- A row's scale. -/
def scale (row : Fin 5504 → EReal) : EReal := rscale (tval row)

/-- A row's codes: its entries over the scale, cut off at 448 on both sides. -/
def code (row : Fin 5504 → EReal) (k : Fin 5504) : EReal :=
  min (Ideal.ofBits .f32 0x43E00000#32) (max (Ideal.ofBits .f32 0xC3E00000#32) (row k * rinv (scale row)))

/-- One entry of the product: the codes against a weight's codes, times both scales. -/
def lin (row w : Fin 5504 → EReal) (ws : EReal) : EReal := (∑ k, code row k * w k) * scale row * ws

end Cert.Scale
-- ==== Proof.KernelRows.lean ====
module

public import proofs.«01_k».proof.Proof.Scale
public import proofs.«01_k».proof.Proof.Gen.KernelIdeal.Skeleton
public import Idealize.ShloMosaic.Lib.Pointwise

/-! What the kernel's body computes of one block, row by row. -/

@[expose] public section
set_option maxRecDepth 16384
noncomputable section
namespace Cert.KernelRows
open Idealize.ShloMosaic Cert.KernelIdeal Cert.KernelIdeal.Gen

/-- The block's column of largest entries. -/
def amaxCol (x : Vec Ideal S1x512x5504 .bf16) : FVec Ideal S512x1 .f32 :=
  extf .f32 (shapeCast S512x1 (multiReduction .maximumf [1] S512 (absf (k0_pay2 x)) 0xFF80#16 reduces_S512x5504_S512 (.inr rfl) rfl) shapeCasts_S512_S512x1) bitsLt_bf16_f32

/-- Which lanes' powers of two are at most the row's value, as ones and zeros. -/
def laneMask (t : FVec Ideal S512x1 .f32) : IVec S512x256 32 :=
  select (cmpf .oge (broadcastTo S512x256 t broadcasts_S512x1_S512x256)
      (broadcastTo S512x256 (bitcastToFloat .f32 (shli (iota .tc S1x256 32 [1] iota_S1x256_d1_w32) (broadcast S1x256 23#32)))
        broadcasts_S1x256_S512x256))
    (broadcast S512x256 1#32) (broadcast S512x256 0#32)

/-- The row sums, less one, as a column. -/
def wordSum (v : IVec S512x256 32) : IVec S512x1 32 :=
  subi (shapeCast S512x1 (multiReductionI .add [1] S512 v 0#32 reduces_S512x256_S512 rfl) shapeCasts_S512_S512x1)
    (broadcast S512x1 1#32)

/-- The column of exponent fields. -/
def fieldCol (t : FVec Ideal S512x1 .f32) : IVec S512x1 32 := wordSum (laneMask t)

/-- The column of exponents. -/
def expoCol (a : FVec Ideal S512x1 .f32) (f : IVec S512x1 32) : IVec S512x1 32 :=
  select (cmpf .oeq a (broadcast S512x1 (Scalar.ofBits .f32 0x00000000#32))) (broadcast S512x1 0#32)
    (select (ori (cmpi .sle f (broadcast S512x1 0#32)) (cmpi .eq f (broadcast S512x1 255#32))) (broadcast S512x1 0#32)
      (subi f (broadcast S512x1 126#32)))

/-- The exponents the block computes are these. -/
theorem pay3_eq (x : Vec Ideal S1x512x5504 .bf16) : k0_pay3 x = expoCol (amaxCol x)
    (fieldCol (mulf (amaxCol x) (broadcast S512x1 (Scalar.ofBits .f32 0x3B124925#32)))) := rfl

/-- The bf16 pattern of minus infinity. -/
theorem ofBits_neg_top : Ideal.ofBits FTy.bf16 65408#16 = ⊥ := by
  simp [Ideal.ofBits, Ideal.ieee]

/-- The largest entry of row `r`. -/
theorem amaxCol_apply (x : Vec Ideal S1x512x5504 .bf16) (r : Fin 512) :
    amaxCol x (ix2 r 0) = Scale.amax fun k => x (ix3 0 r k) := by
  pointwise [amaxCol, k0_pay2]
  rw [Scale.amax, ofBits_neg_top]
  rfl

/-- Lane `k` of row `r`: whether `k`'s power of two is at most the row's `t`. -/
theorem lane_apply (t : FVec Ideal S512x1 .f32) (r : Fin 512) (k : Fin 256) :
    laneMask t (ix2 r k) =
      if Ideal.ofBits .f32 (IntOp.shli .vector (BitVec.ofNat 32 k.val) 23#32) ≤ t (ix2 r 0) then 1#32 else 0#32 := by
  pointwise [laneMask]

/-- A row's sum of words. -/
theorem wordSum_apply (v : IVec S512x256 32) (r : Fin 512) :
    wordSum v (ix2 r 0) = IntOp.subi (Finset.univ.fold IntOp.addi 0#32 fun k : Fin 256 => v (ix2 r k)) 1#32 := by
  pointwise [wordSum]

/-- The field of row `r`. -/
theorem fieldCol_apply (t : FVec Ideal S512x1 .f32) (r : Fin 512) :
    fieldCol t (ix2 r 0) = Scale.field (t (ix2 r 0)) := by
  rw [fieldCol, wordSum_apply, Scale.field]
  simp only [lane_apply]

/-- The exponent of row `r`. -/
theorem expoCol_apply (a : FVec Ideal S512x1 .f32) (f : IVec S512x1 32) (r : Fin 512) :
    expoCol a f (ix2 r 0) =
      Scalar.select (Ideal.cmp .oeq (a (ix2 r 0)) (Ideal.ofBits .f32 0x00000000#32)) 0#32 (Scale.expo (f (ix2 r 0))) := rfl

/-- A column over 448. -/
theorem mul448_apply (a : FVec Ideal S512x1 .f32) (r : Fin 512) :
    mulf a (broadcast S512x1 (Scalar.ofBits .f32 0x3B124925#32)) (ix2 r 0) = a (ix2 r 0) * Ideal.ofBits .f32 0x3B124925#32 := rfl

/-- The largest entry over 448, as the block computes it. -/
theorem tcol_apply (x : Vec Ideal S1x512x5504 .bf16) (r : Fin 512) :
    mulf (amaxCol x) (broadcast S512x1 (Scalar.ofBits .f32 0x3B124925#32)) (ix2 r 0) = Scale.tval fun k => x (ix3 0 r k) := by
  rw [mul448_apply, amaxCol_apply, Scale.tval]

/-- The exponent the block computes of row `r`. -/
theorem pay3_apply (x : Vec Ideal S1x512x5504 .bf16) (r : Fin 512) :
    k0_pay3 x (ix2 r 0) = Scale.expo (Scale.field (Scale.tval fun k => x (ix3 0 r k))) := by
  rw [pay3_eq, expoCol_apply, fieldCol_apply, tcol_apply, amaxCol_apply, Scale.tval, Scale.expo_zero]

/-- The column of scales. -/
def scaleCol (x : Vec Ideal S1x512x5504 .bf16) : FVec Ideal S512x1 .f32 := k0_pay6 (k0_pay4 x) k0_pay5

/-- The bits of the power of two, from a column of exponents. -/
theorem pay4_apply (x : Vec Ideal S1x512x5504 .bf16) (r : Fin 512) :
    k0_pay4 x (ix2 r 0) = IntOp.maxsi (IntOp.addi 127#32 (k0_pay3 x (ix2 r 0))) 0#32 := rfl

/-- The scale of row `r`. -/
theorem scaleCol_apply (x : Vec Ideal S1x512x5504 .bf16) (r : Fin 512) :
    scaleCol x (ix2 r 0) = Scale.scale fun k => x (ix3 0 r k) := by
  have h : scaleCol x (ix2 r 0) = Ideal.ofBits .f32 (IntOp.shli .vector (k0_pay4 x (ix2 r 0)) 23#32) := rfl
  rw [h, pay4_apply, pay3_apply, Scale.scale, ← Scale.kscale_eq, Scale.kscale, Scale.word]

/-- A code, from the block's entries and a column of exponents. -/
theorem pay7_read (v : FVec Ideal S512x5504 .bf16) (e : IVec S512x1 32) (r : Fin 512) (l : Fin 5504) :
    (k0_pay7 v e (ix3 0 r l) : EReal) = min (Ideal.ofBits .f32 0x43E00000#32) (max (Ideal.ofBits .f32 0xC3E00000#32)
      (v (ix2 r l) * Ideal.ofBits .f32 (Scale.word (IntOp.subi 0#32 (e (ix2 r 0)))))) := by
  pointwise [k0_pay7]
  rw [Scale.word]

/-- The block without its leading axis. -/
theorem pay2_apply (x : Vec Ideal S1x512x5504 .bf16) (r : Fin 512) (l : Fin 5504) :
    k0_pay2 x (ix2 r l) = x (ix3 0 r l) := by
  pointwise [k0_pay2]

/-- The block's codes. -/
def codes (x : Vec Ideal S1x512x5504 .bf16) : FVec Ideal S1x512x5504 .fp8e4m3 := k0_pay7 (k0_pay2 x) (k0_pay3 x)

/-- The codes of row `r`. -/
theorem codes_apply (x : Vec Ideal S1x512x5504 .bf16) (r : Fin 512) (l : Fin 5504) :
    codes x (ix3 0 r l) = Scale.code (fun k => x (ix3 0 r k)) l := by
  rw [codes, pay7_read, pay3_apply, pay2_apply, Scale.code, Scale.scale, ← Scale.kinv_eq, Scale.kinv]

/-- The row of an identity mask times a column picks the column's entry. -/
theorem eye_sum (f : Fin 128 → EReal) (r : Fin 128) :
    ∑ x : Fin 128, Scalar.select (IntOp.cmpi .eq (BitVec.ofNat 32 x.val) (BitVec.ofNat 32 r.val)) (f x) 0 = f r := by
  rw [Finset.sum_eq_single r]
  · simp [Scalar.select, IntOp.cmpi]
  · intro x _ hx
    have : BitVec.ofNat 32 x.val ≠ BitVec.ofNat 32 r.val := by
      intro h
      have h' := congrArg BitVec.toNat h
      rw [BitVec.toNat_ofNat, BitVec.toNat_ofNat, Nat.mod_eq_of_lt (by omega), Nat.mod_eq_of_lt (by omega)] at h'
      exact hx (Fin.ext h')
    have hc : IntOp.cmpi .eq (BitVec.ofNat 32 x.val) (BitVec.ofNat 32 r.val) = 0#1 := by
      simp only [IntOp.cmpi, beq_eq_false_iff_ne.mpr this]; rfl
    rw [hc]; rfl
  · simp

/-- The stored lanes of scales 0 to 127. -/
theorem lanes0 (a b : IVec S512x1 32) (r : Fin 128) :
    k0_pay8 (F := Ideal) a b (ix3 0 0 r) = k0_pay6 (F := Ideal) a b (ix2 ⟨r.val, by omega⟩ 0) := by
  pointwise [k0_pay8]
  exact eye_sum (fun x => k0_pay6 (F := Ideal) a b (ix2 ⟨x.val, by omega⟩ 0)) r

/-- The stored lanes of scales 128 to 255. -/
theorem lanes1 (a b : IVec S512x1 32) (r : Fin 128) :
    k0_pay11 k0_pay9 (FloatOps.ofBits .f32 0#32) (k0_pay10 (F := Ideal) a b) (ix3 0 0 r)
      = k0_pay6 (F := Ideal) a b (ix2 ⟨128 + r.val, by omega⟩ 0) := by
  pointwise [k0_pay11, k0_pay9, k0_pay10]
  exact eye_sum (fun x => k0_pay6 (F := Ideal) a b (ix2 ⟨128 + x.val, by omega⟩ 0)) r

/-- The stored lanes of scales 256 to 383. -/
theorem lanes2 (s : FVec Ideal S512x1 .f32) (r : Fin 128) :
    k0_pay12 s (ix3 0 0 r) = s (ix2 ⟨256 + r.val, by omega⟩ 0) := by
  pointwise [k0_pay12]
  exact eye_sum (fun x => s (ix2 ⟨256 + x.val, by omega⟩ 0)) r

/-- The stored lanes of scales 384 to 511. -/
theorem lanes3 (s : FVec Ideal S512x1 .f32) (r : Fin 128) :
    k0_pay13 s (ix3 0 0 r) = s (ix2 ⟨384 + r.val, by omega⟩ 0) := by
  pointwise [k0_pay13]
  exact eye_sum (fun x => s (ix2 ⟨384 + x.val, by omega⟩ 0)) r

/-- A tile of the product at an index. -/
theorem tile_apply (s : FVec Ideal S512x1 .f32) (c : Vec Ideal S1x512x5504 .fp8e4m3) (w : Vec Ideal S512x5504 .fp8e4m3)
    (ws : Vec Ideal S1x512 .f32) (a : Fin 64) (b : Fin 8) (l : Fin 512) :
    (k0_pay16 s c w ws (ix3 a b l) : EReal)
      = (∑ k : Fin 5504, c (ix3 0 ⟨a.val * 8 + b.val, by omega⟩ k) * w (ix2 l k)) * s (ix2 ⟨a.val * 8 + b.val, by omega⟩ 0)
        * ws (ix2 0 l) := by
  pointwise [k0_pay16]

/-- The first tile of columns computes what the second does, of its own part of the weight. -/
theorem tile0 (s : FVec Ideal S512x1 .f32) (c : Vec Ideal S1x512x5504 .fp8e4m3) (w : Vec Ideal S512x5504 .fp8e4m3)
    (ws : Vec Ideal S1x512 .f32) : k0_pay15 s (k0_pay14 c w) ws = k0_pay16 s c w ws := rfl
/-- The third tile of columns computes what the second does. -/
theorem tile2 (s : FVec Ideal S512x1 .f32) (c : Vec Ideal S1x512x5504 .fp8e4m3) (w : Vec Ideal S512x5504 .fp8e4m3)
    (ws : Vec Ideal S1x512 .f32) : k0_pay17 s c w ws = k0_pay16 s c w ws := rfl
/-- The fourth tile of columns computes what the second does. -/
theorem tile3 (s : FVec Ideal S512x1 .f32) (c : Vec Ideal S1x512x5504 .fp8e4m3) (w : Vec Ideal S512x5504 .fp8e4m3)
    (ws : Vec Ideal S1x512 .f32) : k0_pay18 s c w ws = k0_pay16 s c w ws := rfl
/-- The fifth tile of columns computes what the second does. -/
theorem tile4 (s : FVec Ideal S512x1 .f32) (c : Vec Ideal S1x512x5504 .fp8e4m3) (w : Vec Ideal S512x5504 .fp8e4m3)
    (ws : Vec Ideal S1x512 .f32) : k0_pay19 s c w ws = k0_pay16 s c w ws := rfl
/-- The sixth tile of columns computes what the second does. -/
theorem tile5 (s : FVec Ideal S512x1 .f32) (c : Vec Ideal S1x512x5504 .fp8e4m3) (w : Vec Ideal S512x5504 .fp8e4m3)
    (ws : Vec Ideal S1x512 .f32) : k0_pay21 s (k0_pay20 c) w ws = k0_pay16 s c w ws := rfl
/-- The seventh tile of columns computes what the second does. -/
theorem tile6 (s : FVec Ideal S512x1 .f32) (c : Vec Ideal S1x512x5504 .fp8e4m3) (w : Vec Ideal S512x5504 .fp8e4m3)
    (ws : Vec Ideal S1x512 .f32) : k0_pay22 s c w ws = k0_pay16 s c w ws := rfl
/-- The eighth tile of columns computes what the second does. -/
theorem tile7 (s : FVec Ideal S512x1 .f32) (c : Vec Ideal S1x512x5504 .fp8e4m3) (w : Vec Ideal S512x5504 .fp8e4m3)
    (ws : Vec Ideal S1x512 .f32) : k0_pay1 (k0_pay23 s c w) ws = k0_pay16 s c w ws := rfl

end Cert.KernelRows
-- ==== Proof.KernelBlock.lean ====
module

public import proofs.«01_k».proof.Proof.KernelRows
public import proofs.«01_k».proof.Proof.Gen.KernelIdeal.Frame
public import Idealize.ShloMosaic.Lib.Pipeline.ValueKit

/-! What one step of the kernel's grid stores into its three output blocks. -/

@[expose] public section
set_option maxRecDepth 16384
noncomputable section
namespace Cert.KernelBlock
open Cert.KernelIdeal Cert.KernelIdeal.Gen Cert.KernelRows Idealize.ShloMosaic Idealize.ShloMosaic.TcCoe Idealize.SL.Sem

/-- The block of products, at each index: row `8 a + b` of the block against row `n` of the weight. -/
def blockY (x0 : Vec Ideal S1x512x5504 .bf16) (x1 : Vec Ideal S4096x5504 .fp8e4m3) (x2 : Vec Ideal S1x4096 .f32) :
    Vec Ideal S64x8x4096 .bf16 := fun i =>
  Scale.lin (fun k => x0 (ix3 0 ⟨(i 0).val * 8 + (i 1).val, by have h0 : (i 0).val < 64 := (i 0).isLt; have h1 : (i 1).val < 8 := (i 1).isLt; omega⟩ k))
    (fun k => x1 (ix2 (i 2) k)) (x2 (ix2 0 (i 2)))

/-- The block of scales. -/
def blockS (x0 : Vec Ideal S1x512x5504 .bf16) : Vec Ideal S1x1x512 .f32 := fun i => Scale.scale fun k => x0 (ix3 0 (i 2) k)

/-- A tile of the block of products, stored at columns `n0` on, is the block's. -/
theorem tile_piece (x0 : Vec Ideal S1x512x5504 .bf16) (x1 : Vec Ideal S4096x5504 .fp8e4m3) (x2 : Vec Ideal S1x4096 .f32)
    (n0 : ℕ) (h1) (h2) (h3) (j : S64x8x512.Idx) :
    k0_pay16 (scaleCol x0) (codes x0) (View.ld x1 (Rect.unit (s := S4096x5504) ![n0, 0] ![512, 5504] h1))
        (View.ld x2 (Rect.unit (s := S1x4096) ![0, n0] ![1, 512] h2)) j
      = blockY x0 x1 x2 ((Rect.unit (s := S64x8x4096) ![0, 0, n0] ![64, 8, 512] h3).emb j) := by
  idx_vars j
  have hn : n0 + 512 ≤ 4096 := by simpa using h3 2
  refine (tile_apply _ _ _ _ j0 j1 j2).trans ?_
  simp only [codes_apply, scaleCol_apply]
  unfold blockY Scale.lin
  have e0 : ((Rect.unit (s := S64x8x4096) ![0, 0, n0] ![64, 8, 512] h3).emb (ix3 j0 j1 j2)) = ix3 j0 j1 ⟨n0 + j2.val, by omega⟩ := by
    funext k; apply Fin.ext; fin_cases k
    · show 0 + 1 * j0.val = j0.val; omega
    · show 0 + 1 * j1.val = j1.val; omega
    · show n0 + 1 * j2.val = n0 + j2.val; omega
  have e1 : ∀ k, View.ld x1 (Rect.unit (s := S4096x5504) ![n0, 0] ![512, 5504] h1) (ix2 j2 k) = x1 (ix2 ⟨n0 + j2.val, by omega⟩ k) := by
    intro k; pointwise
  have e2 : View.ld x2 (Rect.unit (s := S1x4096) ![0, n0] ![1, 512] h2) (ix2 0 j2) = x2 (ix2 0 ⟨n0 + j2.val, by omega⟩) := by
    pointwise
  rw [e0]
  simp only [e1, e2]
  rfl

/-- A tile of scales, stored at lanes `r0` on, is the block's. -/
theorem lane_piece (x0 : Vec Ideal S1x512x5504 .bf16) (v : Vec Ideal S1x1x128 .f32) (r0 : ℕ) (h)
    (hv : ∀ r : Fin 128, v (ix3 0 0 r) = scaleCol x0 (ix2 ⟨r0 + r.val, by have := h 2; simp at this; omega⟩ 0)) (j : S1x1x128.Idx) :
    v j = blockS x0 ((Rect.unit (s := S1x1x512) ![0, 0, r0] ![1, 1, 128] h).emb j) := by
  idx_vars j
  obtain rfl : j0 = 0 := Subsingleton.elim _ _
  obtain rfl : j1 = 0 := Subsingleton.elim _ _
  refine (hv j2).trans ?_
  rw [scaleCol_apply]
  have hr : r0 + 128 ≤ 512 := by simpa using h 2
  have e0 : ((Rect.unit (s := S1x1x512) ![0, 0, r0] ![1, 1, 128] h).emb (ix3 0 0 j2)) = ix3 0 0 ⟨r0 + j2.val, by omega⟩ := by
    funext k; apply Fin.ext; fin_cases k
    · show 0 + 1 * 0 = 0; omega
    · show 0 + 1 * 0 = 0; omega
    · show r0 + 1 * j2.val = r0 + j2.val; omega
  rw [e0]
  rfl

variable (c : Dev nD) (i : grid0.Coords) (arg1 : Memref sig .tc .vmem S1x512x5504 .bf16) (harg1 : arg1.IsWhole) (arg2 : Memref sig .tc .vmem S4096x5504 .fp8e4m3) (harg2 : arg2.IsWhole) (arg3 : Memref sig .tc .vmem S1x4096 .f32) (harg3 : arg3.IsWhole) (arg4 : Memref sig .tc .vmem S64x8x4096 .bf16) (harg4 : arg4.IsWhole) (arg5 : Memref sig .tc .vmem S1x512x5504 .fp8e4m3) (harg5 : arg5.IsWhole) (arg6 : Memref sig .tc .vmem S1x1x512 .f32) (harg6 : arg6.IsWhole)
  (x0 : Vec Ideal S1x512x5504 .bf16) (x1 : Vec Ideal S4096x5504 .fp8e4m3) (x2 : Vec Ideal S1x4096 .f32)

/-- What a point leaves in its block of products. -/
theorem out3_eq :
    out0_A_3 c i arg1 harg1 arg2 harg2 arg3 harg3 arg4 harg4 arg5 harg5 arg6 harg6 x0 x1 x2 = blockY x0 x1 x2 := by
  frame_out
  funext y
  refine View.canon_apply_of_pieces (blockY x0 x1 x2) _ ?_ y (View.cover_of_tiledL (s := S64x8x4096) _ S64x8x512.size (by sl_kernel_rfl) y)
  intro p hp
  simp only [List.mem_cons, List.not_mem_nil, or_false] at hp
  rcases hp with rfl | rfl | rfl | rfl | rfl | rfl | rfl | rfl
  · rw [tile7]; exact tile_piece x0 x1 x2 3584 _ _ inb_S64x8x4096_S64x8x512_0_0_3584
  · rw [tile6]; exact tile_piece x0 x1 x2 3072 _ _ inb_S64x8x4096_S64x8x512_0_0_3072
  · rw [tile5]; exact tile_piece x0 x1 x2 2560 _ _ inb_S64x8x4096_S64x8x512_0_0_2560
  · rw [tile4]; exact tile_piece x0 x1 x2 2048 _ _ inb_S64x8x4096_S64x8x512_0_0_2048
  · rw [tile3]; exact tile_piece x0 x1 x2 1536 _ _ inb_S64x8x4096_S64x8x512_0_0_1536
  · rw [tile2]; exact tile_piece x0 x1 x2 1024 _ _ inb_S64x8x4096_S64x8x512_0_0_1024
  · exact tile_piece x0 x1 x2 512 _ _ inb_S64x8x4096_S64x8x512_0_0_512
  · rw [tile0]; exact tile_piece x0 x1 x2 0 _ _ inb_S64x8x4096_S64x8x512_0_0_0

/-- What a point leaves in its block of codes. -/
theorem out4_eq :
    out0_A_4 c i arg1 harg1 arg2 harg2 arg3 harg3 arg4 harg4 arg5 harg5 arg6 harg6 x0 x1 x2 = codes x0 := by
  frame_out
  rfl

/-- What a point leaves in its block of scales. -/
theorem out5_eq :
    out0_A_5 c i arg1 harg1 arg2 harg2 arg3 harg3 arg4 harg4 arg5 harg5 arg6 harg6 x0 x1 x2 = blockS x0 := by
  frame_out
  funext y
  refine View.canon_apply_of_pieces (blockS x0) _ ?_ y (View.cover_of_tiledL (s := S1x1x512) _ S1x1x128.size (by sl_kernel_rfl) y)
  intro p hp
  simp only [List.mem_cons, List.not_mem_nil, or_false] at hp
  rcases hp with rfl | rfl | rfl | rfl
  · exact lane_piece x0 _ 384 inb_S1x1x512_S1x1x128_0_0_384 fun r => lanes3 _ r
  · exact lane_piece x0 _ 256 inb_S1x1x512_S1x1x128_0_0_256 fun r => lanes2 _ r
  · exact lane_piece x0 _ 128 inb_S1x1x512_S1x1x128_0_0_128 fun r => lanes1 _ _ r
  · exact lane_piece x0 _ 0 inb_S1x1x512_S1x1x128_0_0_0 fun r => (lanes0 _ _ r).trans (by congr 2; exact Fin.ext (Nat.zero_add _).symm)

end Cert.KernelBlock
-- ==== Proof.Spec.lean ====
module

public import proofs.«01_k».proof.Proof.Scale
public import Idealize.ShloMosaic.Lib.Pointwise

/-! What kernel and reference compute, on whole arrays: products, codes and scales. -/

@[expose] public section
noncomputable section
namespace Cert.Spec
open Idealize.ShloMosaic

/-- A row of the activations. -/
def row (x : Vec Ideal ⟨3, ![3, 1024, 5504]⟩ .bf16) (b : Fin 3) (r : Fin 1024) : Fin 5504 → EReal := fun k => x (ix3 b r k)

/-- The product: every row's codes against every weight row, times the row's scale and the channel's. -/
def y (x : Vec Ideal ⟨3, ![3, 1024, 5504]⟩ .bf16) (w : Vec Ideal ⟨2, ![4096, 5504]⟩ .fp8e4m3) (ws : Vec Ideal ⟨1, ![4096]⟩ .f32) :
    Vec Ideal ⟨3, ![3, 1024, 4096]⟩ .bf16 := fun i =>
  Scale.lin (row x (i 0) (i 1)) (fun k => w (ix2 (i 2) k)) (ws (ix1 (i 2)))

/-- The codes of every row. -/
def codes (x : Vec Ideal ⟨3, ![3, 1024, 5504]⟩ .bf16) : Vec Ideal ⟨3, ![3, 1024, 5504]⟩ .fp8e4m3 := fun i =>
  Scale.code (row x (i 0) (i 1)) (i 2)

/-- The scale of every row. -/
def scales (x : Vec Ideal ⟨3, ![3, 1024, 5504]⟩ .bf16) : Vec Ideal ⟨3, ![3, 1024, 1]⟩ .f32 := fun i =>
  Scale.scale (row x (i 0) (i 1))

end Cert.Spec
-- ==== Proof.KernelValue.lean ====
module

public import proofs.«01_k».proof.Proof.KernelBlock
public import proofs.«01_k».proof.Proof.Spec
public import Idealize.ShloMosaic.Lib.Claim

/-! What the kernel's three results hold at the end: the blocks joined, and the host's reshapes after them. -/

@[expose] public section
set_option maxRecDepth 16384
noncomputable section
namespace Cert.KernelValue
open Cert.KernelIdeal Cert.KernelIdeal.Gen Cert.KernelBlock Cert.KernelRows Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The activations, as launched. -/
abbrev argX : Vec Ideal S3x1024x5504 .bf16 := m ((c : Thread nD τ).loc main_arg0)
/-- The weight, as launched. -/
abbrev argW : Vec Ideal S4096x5504 .fp8e4m3 := m ((c : Thread nD τ).loc main_arg1)
/-- The weight's scales, as launched. -/
abbrev argS : Vec Ideal S4096 .f32 := m ((c : Thread nD τ).loc main_arg2)

/-- The host's row of weight scales, when the region starts. -/
theorem V_main_v0 : V m c main_v0 = shapeCast S1x4096 (argS m c) shapeCasts_S4096_S1x4096 := by
  show StableHlo.after [StableHlo.reshape main_arg2 main_v0 (rfl : (.f32 : EltTy) = .f32) shapeCasts_S4096_S1x4096] (fun b => m (c, b)) _ = _
  rw [StableHlo.after_cons, StableHlo.after_nil, StableHlo.reshape_result]
  rfl

/-- Where each window's block lies at each point. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val / 2 ∧ win0_4.index t (1 : Fin 3) = t.val % 2 ∧ win0_4.index t (2 : Fin 3) = 0)
    ∧ (win0_5.index t (0 : Fin 3) = t.val / 2 ∧ win0_5.index t (1 : Fin 3) = 0 ∧ win0_5.index t (2 : Fin 3) = t.val % 2) :=
  (by decide +kernel : ∀ t : Fin grid0.N, _)

/-- Two points' blocks of products differ. -/
theorem idx_inj3 : ∀ t t' : Fin cfg0.N, win0_3.index t = win0_3.index t' → t = t' :=
  (by decide +kernel : ∀ t t' : Fin grid0.N, win0_3.index t = win0_3.index t' → t = t')
/-- Two points' blocks of codes differ. -/
theorem idx_inj4 : ∀ t t' : Fin cfg0.N, win0_4.index t = win0_4.index t' → t = t' :=
  (by decide +kernel : ∀ t t' : Fin grid0.N, win0_4.index t = win0_4.index t' → t = t')
/-- Two points' blocks of scales differ. -/
theorem idx_inj5 : ∀ t t' : Fin cfg0.N, win0_5.index t = win0_5.index t' → t = t' :=
  (by decide +kernel : ∀ t t' : Fin grid0.N, win0_5.index t = win0_5.index t' → t = t')

/-- The block of activations at a point. -/
theorem blkX (t : Fin cfg0.N) (r : Fin 512) (k : Fin 5504) :
    (iblk m c 0 t : Vec Ideal S1x512x5504 .bf16) (ix3 0 r k)
      = argX m c (ix3 ⟨t.val / 2, by have : t.val < 6 := t.isLt; omega⟩ ⟨t.val % 2 * 512 + r.val, by omega⟩ k) := by
  show V m c main_arg0 (((cfg0.win 0).blk t).view.emb (ix3 0 r k)) = _
  rw [V_main_arg0]
  obtain ⟨⟨e0, e1, e2⟩, -⟩ := idx_facts t
  refine congrArg _ ?_
  funext a; apply Fin.ext
  match a with
  | ⟨0, _⟩ => show win0_0.index t (0 : Fin 3) * 1 + 1 * 0 = t.val / 2; omega
  | ⟨1, _⟩ => show win0_0.index t (1 : Fin 3) * 512 + 1 * r.val = t.val % 2 * 512 + r.val; omega
  | ⟨2, _⟩ => show win0_0.index t (2 : Fin 3) * 5504 + 1 * k.val = k.val; omega

/-- The weight at a point: all of it. -/
theorem blkW (t : Fin cfg0.N) (n : Fin 4096) (k : Fin 5504) :
    (iblk m c 1 t : Vec Ideal S4096x5504 .fp8e4m3) (ix2 n k) = argW m c (ix2 n k) := by
  show V m c main_arg1 (((cfg0.win 1).blk t).view.emb (ix2 n k)) = _
  rw [V_main_arg1]
  obtain ⟨-, ⟨e0, e1⟩, -⟩ := idx_facts t
  refine congrArg _ ?_
  funext a; apply Fin.ext
  match a with
  | ⟨0, _⟩ => show win0_1.index t (0 : Fin 2) * 4096 + 1 * n.val = n.val; omega
  | ⟨1, _⟩ => show win0_1.index t (1 : Fin 2) * 5504 + 1 * k.val = k.val; omega

/-- The weight's scales at a point: all of them, laid out as a row. -/
theorem blkS (t : Fin cfg0.N) (n : Fin 4096) :
    (iblk m c 2 t : Vec Ideal S1x4096 .f32) (ix2 0 n) = argS m c (ix1 n) := by
  show V m c main_v0 (((cfg0.win 2).blk t).view.emb (ix2 0 n)) = _
  obtain ⟨-, -, ⟨e0, e1⟩, -⟩ := idx_facts t
  have e : ((cfg0.win 2).blk t).view.emb (ix2 0 n) = (ix2 0 n : S1x4096.Idx) := by
    funext a; apply Fin.ext
    match a with
    | ⟨0, _⟩ => show win0_2.index t (0 : Fin 2) * 1 + 1 * 0 = 0; omega
    | ⟨1, _⟩ => show win0_2.index t (1 : Fin 2) * 4096 + 1 * n.val = n.val; omega
  refine (congrArg _ e).trans ?_
  rw [V_main_v0]
  pointwise

/-- The array of products after the run, at an index of the block of point `t`. -/
theorem arr3 (t : Fin cfg0.N) (a : Fin 64) (q : Fin 8) (n : Fin 4096) :
    ((dats m 0 c).arrAt 3 cfg0.N : Vec Ideal S384x8x4096 .bf16)
        (ix3 ⟨t.val * 64 + a.val, by have : t.val < 6 := t.isLt; omega⟩ q n)
      = Spec.y (argX m c) (argW m c) (argS m c)
          (ix3 ⟨t.val / 2, by have : t.val < 6 := t.isLt; omega⟩ ⟨t.val % 2 * 512 + (a.val * 8 + q.val), by omega⟩ n) := by
  have h : ((cfg0.win 3).blk t).view.read (Elt Ideal) ((dats m 0 c).arrAt 3 cfg0.N) = (cfg0.win 3).cut (grid0.coords t) ((dats m 0 c).after 3 t) :=
    (dats m 0 c).read_blk_arrAt_eq_flushed 3 (fun t t' _ _ hne => (cfg0.win 3).disjoint_blk fun h => hne (idx_inj3 t t' h))
      cfg0.N t t.isLt (flush0_3 t)
  rw [after0_3] at h
  simp only [outsAt0, out3_eq] at h
  have h' : (dats m 0 c).arrAt 3 cfg0.N (((cfg0.win 3).blk t).view.emb (ix3 a q n)) = blockY (iblk m c 0 t) (iblk m c 1 t) (iblk m c 2 t) (ix3 a q n) :=
    congrFun h (ix3 a q n)
  obtain ⟨-, -, -, ⟨e0, e1, e2⟩, -⟩ := idx_facts t
  have e : ((cfg0.win 3).blk t).view.emb (ix3 a q n) = (ix3 ⟨t.val * 64 + a.val, by have : t.val < 6 := t.isLt; omega⟩ q n : S384x8x4096.Idx) := by
    funext i; apply Fin.ext
    match i with
    | ⟨0, _⟩ => show win0_3.index t (0 : Fin 3) * 64 + 1 * a.val = t.val * 64 + a.val; omega
    | ⟨1, _⟩ => show win0_3.index t (1 : Fin 3) * 8 + 1 * q.val = q.val; omega
    | ⟨2, _⟩ => show win0_3.index t (2 : Fin 3) * 4096 + 1 * n.val = n.val; omega
  refine ((congrArg _ e).symm.trans h').trans ?_
  unfold blockY Spec.y Spec.row
  show Scale.lin (fun k => (iblk m c 0 t : Vec Ideal S1x512x5504 .bf16) (ix3 0 ⟨a.val * 8 + q.val, _⟩ k))
    (fun k => (iblk m c 1 t : Vec Ideal S4096x5504 .fp8e4m3) (ix2 n k)) ((iblk m c 2 t : Vec Ideal S1x4096 .f32) (ix2 0 n)) = _
  simp only [blkX, blkW, blkS]
  rfl

/-- The array of codes after the run, at an index of the block of point `t`. -/
theorem arr4 (t : Fin cfg0.N) (r : Fin 512) (l : Fin 5504) :
    ((dats m 0 c).arrAt 4 cfg0.N : Vec Ideal S3x1024x5504 .fp8e4m3)
        (ix3 ⟨t.val / 2, by have : t.val < 6 := t.isLt; omega⟩ ⟨t.val % 2 * 512 + r.val, by omega⟩ l)
      = Spec.codes (argX m c) (ix3 ⟨t.val / 2, by have : t.val < 6 := t.isLt; omega⟩ ⟨t.val % 2 * 512 + r.val, by omega⟩ l) := by
  have h : ((cfg0.win 4).blk t).view.read (Elt Ideal) ((dats m 0 c).arrAt 4 cfg0.N) = (cfg0.win 4).cut (grid0.coords t) ((dats m 0 c).after 4 t) :=
    (dats m 0 c).read_blk_arrAt_eq_flushed 4 (fun t t' _ _ hne => (cfg0.win 4).disjoint_blk fun h => hne (idx_inj4 t t' h))
      cfg0.N t t.isLt (flush0_4 t)
  rw [after0_4] at h
  simp only [outsAt0, out4_eq] at h
  have h' : (dats m 0 c).arrAt 4 cfg0.N (((cfg0.win 4).blk t).view.emb (ix3 0 r l)) = codes (iblk m c 0 t) (ix3 0 r l) :=
    congrFun h (ix3 0 r l)
  obtain ⟨-, -, -, -, ⟨e0, e1, e2⟩, -⟩ := idx_facts t
  have e : ((cfg0.win 4).blk t).view.emb (ix3 0 r l)
      = (ix3 ⟨t.val / 2, by have : t.val < 6 := t.isLt; omega⟩ ⟨t.val % 2 * 512 + r.val, by omega⟩ l : S3x1024x5504.Idx) := by
    funext i; apply Fin.ext
    match i with
    | ⟨0, _⟩ => show win0_4.index t (0 : Fin 3) * 1 + 1 * 0 = t.val / 2; omega
    | ⟨1, _⟩ => show win0_4.index t (1 : Fin 3) * 512 + 1 * r.val = t.val % 2 * 512 + r.val; omega
    | ⟨2, _⟩ => show win0_4.index t (2 : Fin 3) * 5504 + 1 * l.val = l.val; omega
  refine ((congrArg _ e).symm.trans h').trans ?_
  rw [codes_apply]
  simp only [blkX]
  rfl

/-- The array of scales after the run, at an index of the block of point `t`. -/
theorem arr5 (t : Fin cfg0.N) (r : Fin 512) :
    ((dats m 0 c).arrAt 5 cfg0.N : Vec Ideal S3x1x1024 .f32)
        (ix3 ⟨t.val / 2, by have : t.val < 6 := t.isLt; omega⟩ 0 ⟨t.val % 2 * 512 + r.val, by omega⟩)
      = Spec.scales (argX m c) (ix3 ⟨t.val / 2, by have : t.val < 6 := t.isLt; omega⟩ ⟨t.val % 2 * 512 + r.val, by omega⟩ 0) := by
  have h : ((cfg0.win 5).blk t).view.read (Elt Ideal) ((dats m 0 c).arrAt 5 cfg0.N) = (cfg0.win 5).cut (grid0.coords t) ((dats m 0 c).after 5 t) :=
    (dats m 0 c).read_blk_arrAt_eq_flushed 5 (fun t t' _ _ hne => (cfg0.win 5).disjoint_blk fun h => hne (idx_inj5 t t' h))
      cfg0.N t t.isLt (flush0_5 t)
  rw [after0_5] at h
  simp only [outsAt0, out5_eq] at h
  have h' : (dats m 0 c).arrAt 5 cfg0.N (((cfg0.win 5).blk t).view.emb (ix3 0 0 r)) = blockS (iblk m c 0 t) (ix3 0 0 r) :=
    congrFun h (ix3 0 0 r)
  obtain ⟨-, -, -, -, -, ⟨e0, e1, e2⟩⟩ := idx_facts t
  have e : ((cfg0.win 5).blk t).view.emb (ix3 0 0 r)
      = (ix3 ⟨t.val / 2, by have : t.val < 6 := t.isLt; omega⟩ 0 ⟨t.val % 2 * 512 + r.val, by omega⟩ : S3x1x1024.Idx) := by
    funext i; apply Fin.ext
    match i with
    | ⟨0, _⟩ => show win0_5.index t (0 : Fin 3) * 1 + 1 * 0 = t.val / 2; omega
    | ⟨1, _⟩ => show win0_5.index t (1 : Fin 3) * 1 + 1 * 0 = 0; omega
    | ⟨2, _⟩ => show win0_5.index t (2 : Fin 3) * 512 + 1 * r.val = t.val % 2 * 512 + r.val; omega
  refine ((congrArg _ e).symm.trans h').trans ?_
  show Scale.scale (fun k => (iblk m c 0 t : Vec Ideal S1x512x5504 .bf16) (ix3 0 r k)) = _
  simp only [blkX]
  rfl

/-- The codes, as one array. -/
theorem codes_eq : ((dats m 0 c).arrAt 4 cfg0.N : Vec Ideal S3x1024x5504 .fp8e4m3) = Spec.codes (argX m c) := by
  funext i
  idx_vars i
  have h := arr4 m c ⟨2 * i0.val + i1.val / 512, by show _ < 6; omega⟩ ⟨i1.val % 512, by omega⟩ i2
  have e : (ix3 ⟨(2 * i0.val + i1.val / 512) / 2, by omega⟩ ⟨(2 * i0.val + i1.val / 512) % 2 * 512 + i1.val % 512, by omega⟩ i2 : S3x1024x5504.Idx) = ix3 i0 i1 i2 := by
    congr 1 <;> apply Fin.ext <;> dsimp only <;> omega
  rw [← e]
  exact h

/-- The host's last reshape of the scales, at an index. -/
theorem cast5 (f : Vec Ideal S3x1x1024 .f32) (b : Fin 3) (r : Fin 1024) :
    shapeCast S3x1024x1 f shapeCasts_S3x1x1024_S3x1024x1 (ix3 b r 0) = f (ix3 b 0 r) := by
  pointwise

/-- The host's last reshape of the products, at an index. -/
theorem cast3 (f : Vec Ideal S384x8x4096 .bf16) (b : Fin 3) (r : Fin 1024) (n : Fin 4096) :
    shapeCast S3x1024x4096 f shapeCasts_S384x8x4096_S3x1024x4096 (ix3 b r n)
      = f (ix3 ⟨b.val * 128 + r.val / 8, by omega⟩ ⟨r.val % 8, by omega⟩ n) := by
  pointwise

/-- The scales, reshaped. -/
theorem scales_eq : shapeCast S3x1024x1 ((dats m 0 c).arrAt 5 cfg0.N : Vec Ideal S3x1x1024 .f32) shapeCasts_S3x1x1024_S3x1024x1
    = Spec.scales (argX m c) := by
  funext i
  idx_vars i
  obtain rfl : i2 = 0 := Subsingleton.elim _ _
  rw [cast5]
  have h := arr5 m c ⟨2 * i0.val + i1.val / 512, by show _ < 6; omega⟩ ⟨i1.val % 512, by omega⟩
  have e0 : (⟨(2 * i0.val + i1.val / 512) / 2, by omega⟩ : Fin 3) = i0 := Fin.ext (by dsimp only; omega)
  have e1 : (⟨(2 * i0.val + i1.val / 512) % 2 * 512 + i1.val % 512, by omega⟩ : Fin 1024) = i1 := Fin.ext (by dsimp only; omega)
  rw [e0, e1] at h
  exact h

/-- The products, reshaped. -/
theorem y_eq : shapeCast S3x1024x4096 ((dats m 0 c).arrAt 3 cfg0.N : Vec Ideal S384x8x4096 .bf16) shapeCasts_S384x8x4096_S3x1024x4096
    = Spec.y (argX m c) (argW m c) (argS m c) := by
  funext i
  idx_vars i
  rw [cast3]
  have h := arr3 m c ⟨2 * i0.val + i1.val / 512, by show _ < 6; omega⟩ ⟨i1.val % 512 / 8, by omega⟩ ⟨i1.val % 8, by omega⟩ i2
  have e0 : (⟨(2 * i0.val + i1.val / 512) / 2, by omega⟩ : Fin 3) = i0 := Fin.ext (by dsimp only; omega)
  have e1 : (⟨(2 * i0.val + i1.val / 512) % 2 * 512 + (i1.val % 512 / 8 * 8 + i1.val % 8), by omega⟩ : Fin 1024) = i1 := Fin.ext (by dsimp only; omega)
  have e2 : (⟨(2 * i0.val + i1.val / 512) * 64 + i1.val % 512 / 8, by omega⟩ : Fin 384) = ⟨i0.val * 128 + i1.val / 8, by omega⟩ := Fin.ext (by dsimp only; omega)
  rw [e0, e1, e2] at h
  exact h

/-- The host's first line after the region leaves the products, reshaped to one row a token: the specification's. -/
theorem tail_v2 : Pipeline.afterTail₀ cfgs (dats m) 0 (V0 m) [hostOps1] c main_v2 = Spec.y (argX m c) (argW m c) (argS m c) := by
  refine Eq.trans ?_ (y_eq m c)
  unfold Pipeline.afterTail₀
  show StableHlo.after [StableHlo.reshape main_v1_0 main_v2 (rfl : (.bf16 : EltTy) = .bf16) shapeCasts_S384x8x4096_S3x1024x4096,
    StableHlo.reshape main_v1_2 main_v3 (rfl : (.f32 : EltTy) = .f32) shapeCasts_S3x1x1024_S3x1024x1] _ _ = _
  rw [StableHlo.after_cons, StableHlo.after_cons, StableHlo.after_nil, StableHlo.reshape_result_ne (h := by decide), StableHlo.reshape_result]
  have h := Pipeline.withArrays_arr spec0 launch0.win.arr_inj c (V0 m c) (fun w => (dats m 0 c).arrAt w cfg0.N) 3
  funext i
  show shapeCast S3x1024x4096 _ _ i = _
  exact congrArg (fun f => shapeCast S3x1024x4096 f shapeCasts_S384x8x4096_S3x1024x4096 i) h

/-- What the host's second line leaves. -/
theorem tail_v3 : Pipeline.afterTail₀ cfgs (dats m) 0 (V0 m) [hostOps1] c main_v3 = Spec.scales (argX m c) := by
  refine Eq.trans ?_ (scales_eq m c)
  unfold Pipeline.afterTail₀
  show StableHlo.after [StableHlo.reshape main_v1_0 main_v2 (rfl : (.bf16 : EltTy) = .bf16) shapeCasts_S384x8x4096_S3x1024x4096,
    StableHlo.reshape main_v1_2 main_v3 (rfl : (.f32 : EltTy) = .f32) shapeCasts_S3x1x1024_S3x1024x1] _ _ = _
  rw [StableHlo.after_cons, StableHlo.after_cons, StableHlo.after_nil, StableHlo.reshape_result, StableHlo.reshape_result_ne (h := by decide)]
  have h := Pipeline.withArrays_arr spec0 launch0.win.arr_inj c (V0 m c) (fun w => (dats m 0 c).arrAt w cfg0.N) 5
  funext i
  show shapeCast S3x1024x1 _ _ i = _
  exact congrArg (fun f => shapeCast S3x1024x1 f shapeCasts_S3x1x1024_S3x1024x1 i) h

/-- The kernel's run: its three results in closed form, the arguments unchanged. -/
theorem run : θ_run defs (onTc (τ := τ) (main (F := Ideal))) ⟨m, fun _ => 0, ρ⟩ fun r => ∀ c : Dev nD,
      r.2.mem ((c : Thread nD τ).loc main_v2) = Spec.y (argX m c) (argW m c) (argS m c)
      ∧ r.2.mem ((c : Thread nD τ).loc main_v1_1) = Spec.codes (argX m c)
      ∧ r.2.mem ((c : Thread nD τ).loc main_v3) = Spec.scales (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v2 (Pipeline.mem_restRefs_of main_v2 (by decide) (by decide))).trans (tail_v2 m c),
      ((h c).1 4).trans (codes_eq m c),
      ((h c).2 main_v3 (Pipeline.mem_restRefs_of main_v3 (by decide) (by decide))).trans (tail_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelValue
-- ==== Proof.ReferenceRows.lean ====
module

public import proofs.«01_k».proof.Proof.Scale
public import proofs.«01_k».proof.Proof.Gen.ReferenceIdeal.Skeleton
public import Idealize.ShloMosaic.Lib.Pointwise

/-! What the reference's body computes, row by row. -/

@[expose] public section
set_option maxRecDepth 16384
noncomputable section
namespace Cert.ReferenceRows
open Idealize.ShloMosaic Cert.ReferenceIdeal Cert.ReferenceIdeal.Gen

/-- The column of largest entries. -/
def amaxCol (x : Vec Ideal S3x1024x5504 .bf16) : FVec Ideal S3x1024x1 .f32 :=
  shapeCast S3x1024x1 (multiReduction .maximumf [2] S3x1024 (absf (k0_pay2 x)) 0xFF800000#32 reduces_S3x1024x5504_S3x1024 (.inl rfl) rfl) shapeCasts_S3x1024_S3x1024x1

/-- The powers of two. -/
def powers : FVec Ideal S1x1x253 .f32 :=
  exp2 (sitofp .f32 (subi (iota .tc S1x1x253 32 [2] iota_S1x1x253_d2_w32) (broadcast S1x1x253 125#32)))

/-- The powers above each row's value, plus infinity in the other lanes. -/
def above (p : FVec Ideal S1x1x253 .f32) (t : FVec Ideal S3x1024x1 .f32) : FVec Ideal S3x1024x253 .f32 :=
  select (cmpf .ogt (broadcastTo S3x1024x253 p broadcasts_S1x1x253_S3x1024x253) (broadcastTo S3x1024x253 t broadcasts_S3x1024x1_S3x1024x253))
    (broadcastTo S3x1024x253 (shapeCast S1x1x253 p shapeCasts_S1x1x253_S1x1x253) broadcasts_S1x1x253_S3x1024x253)
    (broadcast S3x1024x253 (Scalar.ofBits .f32 0x7F800000#32))

/-- The least of each row, as a column. -/
def leastCol (v : FVec Ideal S3x1024x253 .f32) : FVec Ideal S3x1024x1 .f32 :=
  shapeCast S3x1024x1 (multiReduction .minimumf [2] S3x1024 v 0x7F800000#32 reduces_S3x1024x253_S3x1024 (.inl rfl) rfl) shapeCasts_S3x1024_S3x1024x1

/-- The least power where the value is normal, one elsewhere. -/
def pick (t l : FVec Ideal S3x1024x1 .f32) : FVec Ideal S3x1024x1 .f32 :=
  select (andi (cmpf .oge t (broadcast S3x1024x1 (Scalar.ofBits .f32 0x00800000#32)))
      (cmpf .olt t (broadcast S3x1024x1 (Scalar.ofBits .f32 0x7F800000#32))))
    l (broadcast S3x1024x1 (Scalar.ofBits .f32 0x3F800000#32))

/-- The largest entries over 448. -/
def tCol (x : Vec Ideal S3x1024x5504 .bf16) : FVec Ideal S3x1024x1 .f32 :=
  mulf (amaxCol x) (broadcast S3x1024x1 (Scalar.ofBits .f32 0x3B124925#32))

/-- The scales the reference computes are these. -/
theorem pay3_eq (x : Vec Ideal S3x1024x5504 .bf16) : k0_pay3 x = pick (tCol x) (leastCol (above powers (tCol x))) := rfl

/-- The f32 pattern of minus infinity. -/
theorem ofBits_neg_top : Ideal.ofBits FTy.f32 0xFF800000#32 = ⊥ := by
  simp [Ideal.ofBits, Ideal.ieee]

/-- The f32 pattern of plus infinity. -/
theorem ofBits_top : Ideal.ofBits FTy.f32 0x7F800000#32 = ⊤ := Scale.pow_top

/-- The pattern of the least normal number. -/
theorem ofBits_pow_one : Ideal.ofBits FTy.f32 0x00800000#32 = Scale.pow 1 := by
  rw [Scale.pow]
  rfl

/-- The largest entry of a row. -/
theorem amaxCol_apply (x : Vec Ideal S3x1024x5504 .bf16) (b : Fin 3) (r : Fin 1024) :
    amaxCol x (ix3 b r 0) = Scale.amax fun k => x (ix3 b r k) := by
  pointwise [amaxCol, k0_pay2]
  rw [Scale.amax, ofBits_neg_top]
  rfl

/-- A column over 448. -/
theorem mul448_apply (a : FVec Ideal S3x1024x1 .f32) (b : Fin 3) (r : Fin 1024) :
    mulf a (broadcast S3x1024x1 (Scalar.ofBits .f32 0x3B124925#32)) (ix3 b r 0) = a (ix3 b r 0) * Ideal.ofBits .f32 0x3B124925#32 := rfl

/-- The largest entry of a row over 448. -/
theorem tCol_apply (x : Vec Ideal S3x1024x5504 .bf16) (b : Fin 3) (r : Fin 1024) :
    tCol x (ix3 b r 0) = Scale.tval fun k => x (ix3 b r k) := by
  rw [tCol, mul448_apply, amaxCol_apply, Scale.tval]

/-- Lane `k` of the powers. -/
theorem powers_apply (k : Fin 253) : powers (ix3 0 0 k) = Scale.lane k.val := by
  pointwise [powers]
  rw [Scale.lane]
  rfl

/-- Lane `k` of a row's candidates. -/
theorem above_apply (p : FVec Ideal S1x1x253 .f32) (t : FVec Ideal S3x1024x1 .f32) (b : Fin 3) (r : Fin 1024) (k : Fin 253) :
    above p t (ix3 b r k) = if t (ix3 b r 0) < p (ix3 0 0 k) then p (ix3 0 0 k) else ⊤ := by
  pointwise [above]
  rw [ofBits_top]

/-- The least of a row. -/
theorem leastCol_apply (v : FVec Ideal S3x1024x253 .f32) (b : Fin 3) (r : Fin 1024) :
    leastCol v (ix3 b r 0) = Finset.univ.fold min ⊤ fun k : Fin 253 => v (ix3 b r k) := by
  pointwise [leastCol]
  rw [ofBits_top]

/-- The choice in a row. -/
theorem pick_apply (t l : FVec Ideal S3x1024x1 .f32) (b : Fin 3) (r : Fin 1024) :
    pick t l (ix3 b r 0) = if Scale.pow 1 ≤ t (ix3 b r 0) ∧ t (ix3 b r 0) < ⊤ then l (ix3 b r 0) else 1 := by
  pointwise [pick]
  rw [ofBits_top, ofBits_pow_one]
  by_cases h1 : Scale.pow 1 ≤ t (ix3 b r 0)
  · by_cases h2 : t (ix3 b r 0) < ⊤
    · rw [if_pos ⟨h1, h2⟩, decide_eq_true h1, decide_eq_true h2]; rfl
    · rw [if_neg fun h => h2 h.2, decide_eq_true h1, decide_eq_false h2]; rfl
  · rw [if_neg fun h => h1 h.1, decide_eq_false h1]
    by_cases h2 : t (ix3 b r 0) < ⊤
    · rw [decide_eq_true h2]; rfl
    · rw [decide_eq_false h2]; rfl

/-- The scale of a row. -/
theorem pay3_apply (x : Vec Ideal S3x1024x5504 .bf16) (b : Fin 3) (r : Fin 1024) :
    k0_pay3 x (ix3 b r 0) = Scale.scale fun k => x (ix3 b r k) := by
  rw [pay3_eq, pick_apply, leastCol_apply]
  simp only [above_apply, powers_apply]
  rw [tCol_apply, Scale.scale, Scale.rscale]

/-- The codes, from a column of scales. -/
def codesOf (v : FVec Ideal S3x1024x5504 .f32) (s : FVec Ideal S3x1024x1 .f32) : FVec Ideal S3x1024x5504 .fp8e4m3 :=
  truncf .fp8e4m3 (minimumf (broadcast S3x1024x5504 (Scalar.ofBits .f32 0x43E00000#32)) (maximumf (broadcast S3x1024x5504 (Scalar.ofBits .f32 0xC3E00000#32))
    (mulf v (broadcastTo S3x1024x5504
      (select (cmpf .oge (divf (broadcast S3x1024x1 (Scalar.ofBits .f32 0x3F800000#32)) s) (broadcast S3x1024x1 (Scalar.ofBits .f32 0x00800000#32)))
        (divf (broadcast S3x1024x1 (Scalar.ofBits .f32 0x3F800000#32)) s) (broadcast S3x1024x1 (Scalar.ofBits .f32 0x00000000#32)))
      broadcasts_S3x1024x1_S3x1024x5504)))) bitsLt_fp8e4m3_f32

/-- The codes the reference computes are these. -/
theorem pay4_eq (x : Vec Ideal S3x1024x5504 .bf16) : k0_pay4 x = codesOf (k0_pay2 x) (k0_pay3 x) := rfl

/-- A code. -/
theorem codesOf_apply (v : FVec Ideal S3x1024x5504 .f32) (s : FVec Ideal S3x1024x1 .f32) (b : Fin 3) (r : Fin 1024) (l : Fin 5504) :
    (codesOf v s (ix3 b r l) : EReal) = min (Ideal.ofBits .f32 0x43E00000#32) (max (Ideal.ofBits .f32 0xC3E00000#32)
      (v (ix3 b r l) * Scale.rinv (s (ix3 b r 0)))) := by
  pointwise [codesOf]
  rw [ofBits_pow_one, Scale.rinv]

/-- The activations in f32 are the activations. -/
theorem pay2_apply (x : Vec Ideal S3x1024x5504 .bf16) (i : S3x1024x5504.Idx) : k0_pay2 x i = x i := rfl

/-- The codes of a row. -/
theorem pay4_apply (x : Vec Ideal S3x1024x5504 .bf16) (b : Fin 3) (r : Fin 1024) (l : Fin 5504) :
    (k0_pay4 x (ix3 b r l) : EReal) = Scale.code (fun k => x (ix3 b r k)) l := by
  rw [pay4_eq, codesOf_apply, pay3_apply, pay2_apply, Scale.code]

/-- A product, from columns of scales and codes. -/
theorem pay1_apply (s : FVec Ideal S3x1024x1 .f32) (q : FVec Ideal S3x1024x5504 .fp8e4m3) (w : Vec Ideal S4096x5504 .fp8e4m3)
    (ws : Vec Ideal S1x1x4096 .f32) (b : Fin 3) (r : Fin 1024) (n : Fin 4096) :
    (k0_pay1 s q w ws (ix3 b r n) : EReal) = (∑ k : Fin 5504, q (ix3 b r k) * w (ix2 n k)) * s (ix3 b r 0) * ws (ix3 0 0 n) := by
  pointwise [k0_pay1]

/-- The product of a row. -/
theorem lin_apply (x : Vec Ideal S3x1024x5504 .bf16) (w : Vec Ideal S4096x5504 .fp8e4m3)
    (ws : Vec Ideal S1x1x4096 .f32) (b : Fin 3) (r : Fin 1024) (n : Fin 4096) :
    (k0_pay1 (k0_pay3 x) (k0_pay4 x) w ws (ix3 b r n) : EReal)
      = Scale.lin (fun k => x (ix3 b r k)) (fun k => w (ix2 n k)) (ws (ix3 0 0 n)) := by
  rw [pay1_apply, pay3_apply, Scale.lin]
  simp only [pay4_apply]

end Cert.ReferenceRows
-- ==== Proof.ReferenceValue.lean ====
module

public import proofs.«01_k».proof.Proof.ReferenceRows
public import proofs.«01_k».proof.Proof.Spec
public import proofs.«01_k».proof.Proof.Gen.ReferenceIdeal.Value
public import Idealize.ShloMosaic.Lib.Claim

/-! What the reference's three results hold at the end. -/

@[expose] public section
set_option maxRecDepth 16384
noncomputable section
namespace Cert.ReferenceValue
open Cert.ReferenceIdeal Cert.ReferenceIdeal.Gen Cert.ReferenceRows Idealize.ShloMosaic Idealize.ShloMosaic.TcCoe Idealize.SL.Sem

variable (m : (ℓ : Loc nD τ sig) → Buf (Elt Ideal) ℓ) (ρ : Dev nD → PrngReg) (c : Dev nD)

/-- The activations, as launched. -/
abbrev argX : Vec Ideal S3x1024x5504 .bf16 := m ((c : Thread nD τ).loc main_arg0)
/-- The weight, as launched. -/
abbrev argW : Vec Ideal S4096x5504 .fp8e4m3 := m ((c : Thread nD τ).loc main_arg1)
/-- The weight's scales, as launched. -/
abbrev argS : Vec Ideal S4096 .f32 := m ((c : Thread nD τ).loc main_arg2)

/-- The host's row of weight scales. -/
theorem V_main_v0 : V m c main_v0 = broadcastInDim S1x1x4096 ![2] bcast_S4096_S1x1x4096_2 (argS m c) := by
  show StableHlo.after [StableHlo.unary main_arg2 main_v0 (broadcastInDim S1x1x4096 ![2] bcast_S4096_S1x1x4096_2 : (⟨S4096, .f32⟩ : BufTy).Contents (Elt Ideal) → (⟨S1x1x4096, .f32⟩ : BufTy).Contents (Elt Ideal))] (fun b => m (c, b)) _ = _
  rw [StableHlo.after_cons, StableHlo.after_nil, StableHlo.unary_result]

/-- The one point of the grid of no axis. -/
abbrev t0 : Fin cfg0.N := ⟨0, by decide⟩

/-- The windows are whole arrays. -/
theorem idx_facts : ∀ t : Fin cfg0.N,
    (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0) :=
  (by decide +kernel : ∀ t : Fin grid0.N, _)

/-- The block of activations is all of them. -/
theorem blkX : (iblk m c 0 t0 : Vec Ideal S3x1024x5504 .bf16) = argX m c := by
  funext y
  show V m c main_arg0 (((cfg0.win 0).blk t0).view.emb y) = _
  rw [V_main_arg0]
  obtain ⟨⟨e0, e1, e2⟩, -⟩ := idx_facts t0
  refine congrArg _ ?_
  funext a; apply Fin.ext
  match a with
  | ⟨0, _⟩ => show win0_0.index t0 (0 : Fin 3) * 3 + 1 * (y 0).val = (y 0).val; omega
  | ⟨1, _⟩ => show win0_0.index t0 (1 : Fin 3) * 1024 + 1 * (y 1).val = (y 1).val; omega
  | ⟨2, _⟩ => show win0_0.index t0 (2 : Fin 3) * 5504 + 1 * (y 2).val = (y 2).val; omega

/-- The block of the weight is all of it. -/
theorem blkW : (iblk m c 1 t0 : Vec Ideal S4096x5504 .fp8e4m3) = argW m c := by
  funext y
  show V m c main_arg1 (((cfg0.win 1).blk t0).view.emb y) = _
  rw [V_main_arg1]
  obtain ⟨-, ⟨e0, e1⟩, -⟩ := idx_facts t0
  refine congrArg _ ?_
  funext a; apply Fin.ext
  match a with
  | ⟨0, _⟩ => show win0_1.index t0 (0 : Fin 2) * 4096 + 1 * (y 0).val = (y 0).val; omega
  | ⟨1, _⟩ => show win0_1.index t0 (1 : Fin 2) * 5504 + 1 * (y 1).val = (y 1).val; omega

/-- The block of the weight's scales is all of them. -/
theorem blkS (n : Fin 4096) : (iblk m c 2 t0 : Vec Ideal S1x1x4096 .f32) (ix3 0 0 n) = argS m c (ix1 n) := by
  show V m c main_v0 (((cfg0.win 2).blk t0).view.emb (ix3 0 0 n)) = _
  obtain ⟨-, -, ⟨e0, e1, e2⟩, -⟩ := idx_facts t0
  have e : ((cfg0.win 2).blk t0).view.emb (ix3 0 0 n) = (ix3 0 0 n : S1x1x4096.Idx) := by
    funext a; apply Fin.ext
    match a with
    | ⟨0, _⟩ => show win0_2.index t0 (0 : Fin 3) * 1 + 1 * 0 = 0; omega
    | ⟨1, _⟩ => show win0_2.index t0 (1 : Fin 3) * 1 + 1 * 0 = 0; omega
    | ⟨2, _⟩ => show win0_2.index t0 (2 : Fin 3) * 4096 + 1 * n.val = n.val; omega
  refine (congrArg _ e).trans ?_
  rw [V_main_v0]
  pointwise

/-- A load of the whole reads the whole. -/
theorem ldX (x : Vec Ideal S3x1024x5504 .bf16) : View.ld x r0_0 = x := by
  funext i; idx_vars i; pointwise
/-- A load of the whole reads the whole. -/
theorem ldW (x : Vec Ideal S4096x5504 .fp8e4m3) : View.ld x r0_1 = x := by
  funext i; idx_vars i; pointwise
/-- A load of the whole reads the whole. -/
theorem ldS (x : Vec Ideal S1x1x4096 .f32) : View.ld x r0_2 = x := by
  funext i; idx_vars i
  obtain rfl : i0 = 0 := Subsingleton.elim _ _
  obtain rfl : i1 = 0 := Subsingleton.elim _ _
  pointwise

/-- One piece that is the whole block leaves itself. -/
theorem out3_eq (x0 : Vec Ideal S3x1024x5504 .bf16) (x1 : Vec Ideal S4096x5504 .fp8e4m3) (x2 : Vec Ideal S1x1x4096 .f32) (y : S3x1024x4096.Idx) :
    out0_3 x0 x1 x2 y = k0_pay1 (k0_pay3 x0) (k0_pay4 x0) x1 x2 y := by
  unfold_out out0_3
  rw [ldX, ldW, ldS]
  have h := View.canon_cons_emb (Val := Elt Ideal) (e := .bf16) r0_3 (k0_pay1 (k0_pay3 x0) (k0_pay4 x0) x1 x2) [] y
  have e : r0_3.emb y = y := by
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [e] at h
  exact h

/-- The codes' block. -/
theorem out4_eq (x0 : Vec Ideal S3x1024x5504 .bf16) (x1 : Vec Ideal S4096x5504 .fp8e4m3) (x2 : Vec Ideal S1x1x4096 .f32) (y : S3x1024x5504.Idx) :
    out0_4 x0 x1 x2 y = k0_pay4 x0 y := by
  unfold_out out0_4
  rw [ldX]
  have h := View.canon_cons_emb (Val := Elt Ideal) (e := .fp8e4m3) r0_0 (k0_pay4 x0) [] y
  have e : r0_0.emb y = y := by
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [e] at h
  exact h

/-- The scales' block. -/
theorem out5_eq (x0 : Vec Ideal S3x1024x5504 .bf16) (x1 : Vec Ideal S4096x5504 .fp8e4m3) (x2 : Vec Ideal S1x1x4096 .f32) (y : S3x1024x1.Idx) :
    out0_5 x0 x1 x2 y = k0_pay3 x0 y := by
  unfold_out out0_5
  rw [ldX]
  have h := View.canon_cons_emb (Val := Elt Ideal) (e := .f32) r0_4 (k0_pay3 x0) [] y
  have e : r0_4.emb y = y := by
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [e] at h
  exact h

/-- The reference's products. -/
theorem y_eq : ((dats m 0 c).arrAt 3 cfg0.N : Vec Ideal S3x1024x4096 .bf16) = Spec.y (argX m c) (argW m c) (argS m c) := by
  funext y
  have h := congrFun (Value.blocks3 m c t0 rfl) y
  rw [Value.flushed3] at h
  have h' : (dats m 0 c).arrAt 3 cfg0.N (((cfg0.win 3).blk t0).view.emb y) = out0_3 (iblk m c 0 t0) (iblk m c 1 t0) (iblk m c 2 t0) y := h
  obtain ⟨-, -, -, ⟨e0, e1, e2⟩, -⟩ := idx_facts t0
  have e : ((cfg0.win 3).blk t0).view.emb y = y := by
    funext a; apply Fin.ext
    match a with
    | ⟨0, _⟩ => show win0_3.index t0 (0 : Fin 3) * 3 + 1 * (y 0).val = (y 0).val; omega
    | ⟨1, _⟩ => show win0_3.index t0 (1 : Fin 3) * 1024 + 1 * (y 1).val = (y 1).val; omega
    | ⟨2, _⟩ => show win0_3.index t0 (2 : Fin 3) * 4096 + 1 * (y 2).val = (y 2).val; omega
  refine ((congrArg _ e).symm.trans h').trans ?_
  rw [out3_eq, blkX, blkW]
  clear h h' e
  idx_vars y
  refine (lin_apply _ _ _ y0 y1 y2).trans ?_
  rw [blkS]
  rfl

/-- The reference's codes. -/
theorem codes_eq : ((dats m 0 c).arrAt 4 cfg0.N : Vec Ideal S3x1024x5504 .fp8e4m3) = Spec.codes (argX m c) := by
  funext y
  have h := congrFun (Value.blocks4 m c t0 rfl) y
  rw [Value.flushed4] at h
  have h' : (dats m 0 c).arrAt 4 cfg0.N (((cfg0.win 4).blk t0).view.emb y) = out0_4 (iblk m c 0 t0) (iblk m c 1 t0) (iblk m c 2 t0) y := h
  obtain ⟨-, -, -, -, ⟨e0, e1, e2⟩, -⟩ := idx_facts t0
  have e : ((cfg0.win 4).blk t0).view.emb y = y := by
    funext a; apply Fin.ext
    match a with
    | ⟨0, _⟩ => show win0_4.index t0 (0 : Fin 3) * 3 + 1 * (y 0).val = (y 0).val; omega
    | ⟨1, _⟩ => show win0_4.index t0 (1 : Fin 3) * 1024 + 1 * (y 1).val = (y 1).val; omega
    | ⟨2, _⟩ => show win0_4.index t0 (2 : Fin 3) * 5504 + 1 * (y 2).val = (y 2).val; omega
  refine ((congrArg _ e).symm.trans h').trans ?_
  rw [out4_eq, blkX]
  clear h h' e
  idx_vars y
  exact pay4_apply _ y0 y1 y2

/-- The reference's scales. -/
theorem scales_eq : ((dats m 0 c).arrAt 5 cfg0.N : Vec Ideal S3x1024x1 .f32) = Spec.scales (argX m c) := by
  funext y
  have h := congrFun (Value.blocks5 m c t0 rfl) y
  rw [Value.flushed5] at h
  have h' : (dats m 0 c).arrAt 5 cfg0.N (((cfg0.win 5).blk t0).view.emb y) = out0_5 (iblk m c 0 t0) (iblk m c 1 t0) (iblk m c 2 t0) y := h
  obtain ⟨-, -, -, -, -, ⟨e0, e1, e2⟩⟩ := idx_facts t0
  have e : ((cfg0.win 5).blk t0).view.emb y = y := by
    funext a; apply Fin.ext
    match a with
    | ⟨0, _⟩ => show win0_5.index t0 (0 : Fin 3) * 3 + 1 * (y 0).val = (y 0).val; omega
    | ⟨1, _⟩ => show win0_5.index t0 (1 : Fin 3) * 1024 + 1 * (y 1).val = (y 1).val; omega
    | ⟨2, _⟩ => show win0_5.index t0 (2 : Fin 3) * 1 + 1 * (y 2).val = (y 2).val; omega
  refine ((congrArg _ e).symm.trans h').trans ?_
  rw [out5_eq, blkX]
  clear h h' e
  idx_vars y
  obtain rfl : y2 = 0 := Subsingleton.elim _ _
  exact pay3_apply _ y0 y1

/-- The reference's run: its three results in closed form, the arguments unchanged. -/
theorem run : θ_run defs (onTc (τ := τ) (main (F := Ideal))) ⟨m, fun _ => 0, ρ⟩ fun r => ∀ c : Dev nD,
      r.2.mem ((c : Thread nD τ).loc main_v1_0) = Spec.y (argX m c) (argW m c) (argS m c)
      ∧ r.2.mem ((c : Thread nD τ).loc main_v1_1) = Spec.codes (argX m c)
      ∧ r.2.mem ((c : Thread nD τ).loc main_v1_2) = Spec.scales (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (y_eq m c), (h c).2.1.trans (codes_eq m c),
      (h c).2.2.1.trans (scales_eq m c), (h c).2.2.2⟩)
    (Value.run_blocks m ρ)

end Cert.ReferenceValue
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem

/-- The kernel and the reference, on the same arguments, end with the same products, the same codes and the same scales. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Spec.y (KernelValue.argX m c) (KernelValue.argW m c) (KernelValue.argS m c),
    fun c => Spec.codes (KernelValue.argX m c), fun c => Spec.scales (KernelValue.argX m c),
    KernelValue.run m g, ?_⟩
  have hX : ∀ c, ReferenceValue.argX m' c = KernelValue.argX m c := fun c => (hagree c).1
  have hW : ∀ c, ReferenceValue.argW m' c = KernelValue.argW m c := fun c => (hagree c).2.1
  have hS : ∀ c, ReferenceValue.argS m' c = KernelValue.argS m c := fun c => (hagree c).2.2
  refine (θ_run _ _ _).mono (fun r h c => ?_) (ReferenceValue.run m' g')
  have h := h c
  rw [hX, hW, hS] at h
  exact h

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
